-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x4096 : Shape := ⟨3, ![1, 6144, 4096]⟩
abbrev S1x6144x1 : Shape := ⟨3, ![1, 6144, 1]⟩
abbrev S4096x28672 : Shape := ⟨2, ![4096, 28672]⟩
abbrev S1x28672 : Shape := ⟨2, ![1, 28672]⟩
abbrev S6144x4096 : Shape := ⟨2, ![6144, 4096]⟩
abbrev S6144x1 : Shape := ⟨2, ![6144, 1]⟩
abbrev S6144x28672 : Shape := ⟨2, ![6144, 28672]⟩
abbrev S2048x4096 : Shape := ⟨2, ![2048, 4096]⟩
abbrev S2048x1 : Shape := ⟨2, ![2048, 1]⟩
abbrev S4096x2048 : Shape := ⟨2, ![4096, 2048]⟩
abbrev S1x2048 : Shape := ⟨2, ![1, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩
abbrev S1024x1 : Shape := ⟨2, ![1024, 1]⟩
abbrev S1x1024 : Shape := ⟨2, ![1, 1024]⟩
abbrev S1x6144x28672 : Shape := ⟨3, ![1, 6144, 28672]⟩

abbrev nBuf : Space → Nat
  | .hbm => 8
  | .vmem => 10
  | .smem => 0
  | _ => 0

abbrev bufTy : (tb : Table) → Fin (tcTables nBuf tb) → BufTy
  | .hbm, ⟨0, _⟩ => ⟨S1x6144x4096, .fp8e4m3⟩
  | .hbm, ⟨1, _⟩ => ⟨S1x6144x1, .f32⟩
  | .hbm, ⟨2, _⟩ => ⟨S4096x28672, .fp8e4m3⟩
  | .hbm, ⟨3, _⟩ => ⟨S1x28672, .f32⟩
  | .hbm, ⟨4, _⟩ => ⟨S6144x4096, .fp8e4m3⟩
  | .hbm, ⟨5, _⟩ => ⟨S6144x1, .f32⟩
  | .hbm, ⟨6, _⟩ => ⟨S6144x28672, .bf16⟩
  | .hbm, ⟨7, _⟩ => ⟨S1x6144x28672, .bf16⟩
  | .local _ .vmem, ⟨0, _⟩ => ⟨S2048x4096, .fp8e4m3⟩
  | .local _ .vmem, ⟨1, _⟩ => ⟨S2048x4096, .fp8e4m3⟩
  | .local _ .vmem, ⟨2, _⟩ => ⟨S2048x1, .f32⟩
  | .local _ .vmem, ⟨3, _⟩ => ⟨S2048x1, .f32⟩
  | .local _ .vmem, ⟨4, _⟩ => ⟨S4096x2048, .fp8e4m3⟩
  | .local _ .vmem, ⟨5, _⟩ => ⟨S4096x2048, .fp8e4m3⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S2048x2048, .bf16⟩
  | _, _ => ⟨S1x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![14, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x6144x4096 : Shape := ⟨3, ![1, 6144, 4096]⟩
abbrev S1x6144x1 : Shape := ⟨3, ![1, 6144, 1]⟩
abbrev S4096x28672 : Shape := ⟨2, ![4096, 28672]⟩
abbrev S1x28672 : Shape := ⟨2, ![1, 28672]⟩
abbrev S1x6144x28672 : Shape := ⟨3, ![1, 6144, 28672]⟩
abbrev S1x1x28672 : Shape := ⟨3, ![1, 1, 28672]⟩

abbrev nBuf : Space → Nat
  | .hbm => 5
  | .vmem => 5
  | .smem => 0
  | _ => 0

abbrev bufTy : (tb : Table) → Fin (tcTables nBuf tb) → BufTy
  | .hbm, ⟨0, _⟩ => ⟨S1x6144x4096, .fp8e4m3⟩
  | .hbm, ⟨1, _⟩ => ⟨S1x6144x1, .f32⟩
  | .hbm, ⟨2, _⟩ => ⟨S4096x28672, .fp8e4m3⟩
  | .hbm, ⟨3, _⟩ => ⟨S1x28672, .f32⟩
  | .hbm, ⟨4, _⟩ => ⟨S1x6144x28672, .bf16⟩
  | .local _ .vmem, ⟨0, _⟩ => ⟨S1x6144x4096, .fp8e4m3⟩
  | .local _ .vmem, ⟨1, _⟩ => ⟨S1x6144x1, .f32⟩
  | .local _ .vmem, ⟨2, _⟩ => ⟨S4096x28672, .fp8e4m3⟩
  | .local _ .vmem, ⟨3, _⟩ => ⟨S1x28672, .f32⟩
  | .local _ .vmem, ⟨4, _⟩ => ⟨S1x6144x28672, .bf16⟩
  | _, _ => ⟨S1x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x6144x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x28672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144x28672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scaled.lean ====
/-
  The number both programs compute at an index of their result, over the extended reals.
-/
module

public import Idealize.ShloMosaic.PureOps.Ideal

@[expose] public section

noncomputable section

namespace Cert

/-- The inner product of a row of codes and a column of codes, times the row's scale, times the column's scale. -/
def scaled {K : ℕ} (x w : Fin K → EReal) (s t : EReal) : EReal := (∑ k : Fin K, x k * w k) * s * t

end Cert

end
-- ==== Proof.Block.lean ====
/-
  What ONE BLOCK of the kernel computes, over the extended reals: the body's four stores, each a 1024 × 1024 tile of the
  2048 × 2048 output block, are together one function of the four input blocks — the scaled product `blockOut` — read
  index by index.
-/
module

public import proofs.«01_k».proof.Proof.Scaled
public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Pointwise.Contract
public import Idealize.ShloMosaic.PureOps.Ideal

@[expose] public section

set_option maxRecDepth 16384

noncomputable section

namespace Cert.KernelIdeal.Block

open Cert.KernelIdeal Cert.KernelIdeal.Gen Idealize.ShloMosaic

/-- A 1024 × 1024 tile's payload at row `r` and column `c`: the scaled inner product of row `r` and column `c`. -/
theorem tile_apply (x : Vec Ideal S1024x4096 .fp8e4m3) (w : Vec Ideal S4096x1024 .fp8e4m3) (xs : Vec Ideal S1024x1 .f32)
    (ws : Vec Ideal S1x1024 .f32) (r c : Fin 1024) :
    k0_pay3 x w xs ws (ix2 r c) = scaled (fun k => x (ix2 r k)) (fun k => w (ix2 k c)) (xs (ix2 r 0)) (ws (ix2 0 c)) := by
  unfold_payloads
  pointwise [scaled]

/-- What an output block holds: at each index the scaled inner product of the row and the column of the input blocks. -/
def blockOut (x : Vec Ideal S2048x4096 .fp8e4m3) (xs : Vec Ideal S2048x1 .f32) (w : Vec Ideal S4096x2048 .fp8e4m3)
    (ws : Vec Ideal S1x2048 .f32) : Vec Ideal S2048x2048 .bf16 :=
  fun j => scaled (fun k => x (ix2 (j 0) k)) (fun k => w (ix2 k (j 1))) (xs (ix2 (j 0) 0)) (ws (ix2 0 (j 1)))

/-- The tile at rows `i…` and columns `j…` is that part of `blockOut`, wherever the tile lies in the block. -/
theorem tile_eq (x : Vec Ideal S2048x4096 .fp8e4m3) (xs : Vec Ideal S2048x1 .f32) (w : Vec Ideal S4096x2048 .fp8e4m3)
    (ws : Vec Ideal S1x2048 .f32) (i j : ℕ) (hx : ∀ a, (![i, 0] : Fin 2 → ℕ) a + S1024x4096.size a ≤ S2048x4096.size a)
    (hw : ∀ a, (![0, j] : Fin 2 → ℕ) a + S4096x1024.size a ≤ S4096x2048.size a)
    (hs : ∀ a, (![i, 0] : Fin 2 → ℕ) a + S1024x1.size a ≤ S2048x1.size a)
    (ht : ∀ a, (![0, j] : Fin 2 → ℕ) a + S1x1024.size a ≤ S1x2048.size a)
    (ho : ∀ a, (![i, j] : Fin 2 → ℕ) a + S1024x1024.size a ≤ S2048x2048.size a) (p : S1024x1024.Idx) :
    k0_pay3 (View.ld x (Rect.unit (s := S2048x4096) ![i, 0] S1024x4096.size hx))
        (View.ld w (Rect.unit (s := S4096x2048) ![0, j] S4096x1024.size hw))
        (View.ld xs (Rect.unit (s := S2048x1) ![i, 0] S1024x1.size hs))
        (View.ld ws (Rect.unit (s := S1x2048) ![0, j] S1x1024.size ht)) p
      = blockOut x xs w ws ((Rect.unit (s := S2048x2048) ![i, j] S1024x1024.size ho).emb p) := by
  obtain ⟨r, c, rfl⟩ : ∃ r c : Fin 1024, p = ix2 r c := ⟨p 0, p 1, eq_ix2 p⟩
  rw [tile_apply]
  unfold blockOut
  congr 1
  · funext k
    refine View.ld_unit_apply_of x _ _ hx _ _ fun a => ?_
    match a with
    | ⟨0, _⟩ => show i + 1 * r.val = i + r.val; omega
    | ⟨1, _⟩ => show k.val = 0 + k.val; omega
  · funext k
    refine View.ld_unit_apply_of w _ _ hw _ _ fun a => ?_
    match a with
    | ⟨0, _⟩ => show k.val = 0 + k.val; omega
    | ⟨1, _⟩ => show j + 1 * c.val = j + c.val; omega
  · refine View.ld_unit_apply_of xs _ _ hs _ _ fun a => ?_
    match a with
    | ⟨0, _⟩ => show i + 1 * r.val = i + r.val; omega
    | ⟨1, _⟩ => rfl
  · refine View.ld_unit_apply_of ws _ _ ht _ _ fun a => ?_
    match a with
    | ⟨0, _⟩ => rfl
    | ⟨1, _⟩ => show j + 1 * c.val = j + c.val; omega

/-- The four stores together leave `blockOut` of the input blocks. -/
theorem out_eq (x : Vec Ideal S2048x4096 .fp8e4m3) (xs : Vec Ideal S2048x1 .f32) (w : Vec Ideal S4096x2048 .fp8e4m3)
    (ws : Vec Ideal S1x2048 .f32) : out0_4 x xs w ws = blockOut x xs w ws := by
  funext y
  unfold out0_4
  refine View.canon_apply_of_pieces _ _ ?_ y (cover0_4 _ _ _ _ y)
  simp only [List.forall_mem_cons, List.not_mem_nil, false_imp_iff, implies_true, and_true]
  exact ⟨tile_eq x xs w ws 1024 1024 _ _ _ _ _, tile_eq x xs w ws 0 1024 _ _ _ _ _, tile_eq x xs w ws 1024 0 _ _ _ _ _,
    tile_eq x xs w ws 0 0 _ _ _ _ _⟩

end Cert.KernelIdeal.Block

end
-- ==== Proof.Array.lean ====
/-
  What the kernel's ARRAY holds after the grid has run: the 14 × 3 output blocks tile the [6144, 28672] array, and each is
  that block of one function `product` of the four arrays the grid reads.
-/
module

public import proofs.«01_k».proof.Proof.Block

@[expose] public section

set_option maxRecDepth 16384

noncomputable section

namespace Cert.KernelIdeal.Array

open Cert.KernelIdeal Cert.KernelIdeal.Gen Cert.KernelIdeal.Block Idealize.ShloMosaic Idealize.ShloMosaic.TcCoe
  Idealize.SL.Sem
open Idealize.ShloMosaic.Pipeline (Dat)

variable (m : (ℓ : Loc nD τ sig) → Buf (Elt Ideal) ℓ)

/-- The scaled product of whole arrays: at each index the scaled inner product of the row and the column. -/
def product (x : Vec Ideal S6144x4096 .fp8e4m3) (xs : Vec Ideal S6144x1 .f32) (w : Vec Ideal S4096x28672 .fp8e4m3)
    (ws : Vec Ideal S1x28672 .f32) : Vec Ideal S6144x28672 .bf16 :=
  fun j => scaled (fun k => x (ix2 (j 0) k)) (fun k => w (ix2 k (j 1))) (xs (ix2 (j 0) 0)) (ws (ix2 0 (j 1)))

/-- `product` of the arrays as the grid finds them. -/
abbrev result (c : Dev nD) : Vec Ideal S6144x28672 .bf16 :=
  product (V m c main_v0) (V m c main_v1) (V m c main_arg2) (V m c main_arg3)

/-- Which block each window shows at point `t`: the row block is `t % 3`, the column block `t / 3`. -/
theorem idx_facts : ∀ t : Fin cfg0.N,
    (win0_0.index t (0 : Fin 2) = t.val % 3 ∧ win0_0.index t (1 : Fin 2) = 0)
    ∧ (win0_1.index t (0 : Fin 2) = t.val % 3 ∧ win0_1.index t (1 : Fin 2) = 0)
    ∧ (win0_2.index t (0 : Fin 2) = 0 ∧ win0_2.index t (1 : Fin 2) = t.val / 3)
    ∧ (win0_3.index t (0 : Fin 2) = 0 ∧ win0_3.index t (1 : Fin 2) = t.val / 3)
    ∧ (win0_4.index t (0 : Fin 2) = t.val % 3 ∧ win0_4.index t (1 : Fin 2) = t.val / 3) :=
  (by decide +kernel : ∀ t : Fin grid0.N, _)

/-- What point `t` writes back is block `t` of the scaled product of the arrays. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, out_eq]
  obtain ⟨⟨a0, a1⟩, ⟨b0, b1⟩, ⟨c0, c1⟩, ⟨d0, d1⟩, e0, e1⟩ := idx_facts t
  funext j
  show scaled (fun k : Fin 4096 => V m c main_v0 (((cfg0.win 0).blk t).view.emb (ix2 (j 0) k)))
      (fun k : Fin 4096 => V m c main_arg2 (((cfg0.win 2).blk t).view.emb (ix2 k (j 1))))
      (V m c main_v1 (((cfg0.win 1).blk t).view.emb (ix2 (j 0) 0)))
      (V m c main_arg3 (((cfg0.win 3).blk t).view.emb (ix2 0 (j 1))))
    = result m c (((cfg0.win 4).blk t).view.emb j)
  unfold result product
  refine congr (congr (congrArg₂ scaled ?_ ?_) ?_) ?_
  · funext k
    refine congrArg (V m c main_v0) (funext fun a => Fin.ext ?_)
    match a with
    | ⟨0, _⟩ =>
      show win0_0.index t (0 : Fin 2) * 2048 + 1 * (j 0).val = win0_4.index t (0 : Fin 2) * 2048 + 1 * (j 0).val
      rw [a0, e0]
    | ⟨1, _⟩ => show win0_0.index t (1 : Fin 2) * 4096 + 1 * k.val = k.val; omega
  · funext k
    refine congrArg (V m c main_arg2) (funext fun a => Fin.ext ?_)
    match a with
    | ⟨0, _⟩ => show win0_2.index t (0 : Fin 2) * 4096 + 1 * k.val = k.val; omega
    | ⟨1, _⟩ =>
      show win0_2.index t (1 : Fin 2) * 2048 + 1 * (j 1).val = win0_4.index t (1 : Fin 2) * 2048 + 1 * (j 1).val
      rw [c1, e1]
  · refine congrArg (V m c main_v1) (funext fun a => Fin.ext ?_)
    match a with
    | ⟨0, _⟩ =>
      show win0_1.index t (0 : Fin 2) * 2048 + 1 * (j 0).val = win0_4.index t (0 : Fin 2) * 2048 + 1 * (j 0).val
      rw [b0, e0]
    | ⟨1, _⟩ => show win0_1.index t (1 : Fin 2) * 1 + 1 * 0 = 0; omega
  · refine congrArg (V m c main_arg3) (funext fun a => Fin.ext ?_)
    match a with
    | ⟨0, _⟩ => show win0_3.index t (0 : Fin 2) * 1 + 1 * 0 = 0; omega
    | ⟨1, _⟩ =>
      show win0_3.index t (1 : Fin 2) * 2048 + 1 * (j 1).val = win0_4.index t (1 : Fin 2) * 2048 + 1 * (j 1).val
      rw [d1, e1]

/-- Every index of the output array lies in the block of some point: row block `i₀ / 2048`, column block `i₁ / 2048`. -/
theorem covered (i : S6144x28672.Idx) :
    ∃ t : Fin cfg0.N, (cfg0.win 4).flush t = true ∧ i ∈ ((cfg0.win 4).blk t).view.set := by
  have h0 : (i 0 : ℕ) < 6144 := (i 0).isLt
  have h1 : (i 1 : ℕ) < 28672 := (i 1).isLt
  obtain ⟨t, ht⟩ : ∃ t : Fin cfg0.N, t.val = (i 1 : ℕ) / 2048 * 3 + (i 0 : ℕ) / 2048 :=
    ⟨⟨_, by show _ < grid0.N; rw [Gen.N_0]; omega⟩, rfl⟩
  obtain ⟨-, -, -, -, e0, e1⟩ := idx_facts t
  refine ⟨t, flush0_4 t, ?_⟩
  show i ∈ ((View.whole main_v2).slice (win0_4.rect t)).set
  rw [View.set_slice_whole, Rect.mem_set_unit]
  intro a
  match a with
  | ⟨0, _⟩ =>
    show win0_4.index t (0 : Fin 2) * 2048 ≤ (i 0 : ℕ) ∧ (i 0 : ℕ) < win0_4.index t (0 : Fin 2) * 2048 + 2048
    omega
  | ⟨1, _⟩ =>
    show win0_4.index t (1 : Fin 2) * 2048 ≤ (i 1 : ℕ) ∧ (i 1 : ℕ) < win0_4.index t (1 : Fin 2) * 2048 + 2048
    omega

/-- So after the grid the output array is the scaled product. -/
theorem final (c : Dev nD) : (dats m 0 c).arrAt 4 cfg0.N = result m c :=
  (dats m 0 c).arrAt_eq_of_cover 4 (result m c) (fun t _ => flushed_eq m c t) covered

end Cert.KernelIdeal.Array

end
-- ==== Proof.Run.lean ====
/-
  What the kernel's RUN leaves in its result: the leading axis of the inputs is dropped before the grid and put back after
  it, so the result at row `r` and column `c` is the scaled inner product of row `r` and column `c` of the arguments.
-/
module

public import proofs.«01_k».proof.Proof.Array

@[expose] public section

set_option maxRecDepth 16384

noncomputable section

namespace Cert.KernelIdeal.Run

open Cert.KernelIdeal Cert.KernelIdeal.Gen Cert.KernelIdeal.Array Idealize.ShloMosaic Idealize.ShloMosaic.TcCoe
  Idealize.SL.Sem

variable (m : (ℓ : Loc nD τ sig) → Buf (Elt Ideal) ℓ) (ρ : Dev nD → PrngReg)

/-- The grid finds the codes with their leading axis dropped, -/
theorem V_main_v0 (c : Dev nD) : V m c main_v0
    = shapeCast S6144x4096 (m ((c : Thread nD τ).loc main_arg0)) shapeCasts_S1x6144x4096_S6144x4096 := by
  show StableHlo.after (List.flatten [hostOps0]) (fun b => m (c, b)) (Proc.devRef .tc main_v0) = _
  simp only [hostOps0, List.flatten_cons, List.flatten_nil, List.append_nil, List.cons_append, List.nil_append]
  after_results
  rfl

/-- and the row scales with theirs. -/
theorem V_main_v1 (c : Dev nD) : V m c main_v1
    = shapeCast S6144x1 (m ((c : Thread nD τ).loc main_arg1)) shapeCasts_S1x6144x1_S6144x1 := by
  show StableHlo.after (List.flatten [hostOps0]) (fun b => m (c, b)) (Proc.devRef .tc main_v1) = _
  simp only [hostOps0, List.flatten_cons, List.flatten_nil, List.append_nil, List.cons_append, List.nil_append]
  after_results
  rfl

/-- No two windows of the grid show the same array. -/
theorem arr_inj : Function.Injective (Pipeline.arrRef spec0) := by decide

/-- The result as a function of the four arguments: the scaled product of the arguments with their leading axis dropped,
    that axis put back. -/
abbrev value (x : Vec Ideal S1x6144x4096 .fp8e4m3) (xs : Vec Ideal S1x6144x1 .f32)
    (w : Vec Ideal S4096x28672 .fp8e4m3) (ws : Vec Ideal S1x28672 .f32) : Vec Ideal S1x6144x28672 .bf16 :=
  shapeCast S1x6144x28672 (product (shapeCast S6144x4096 x shapeCasts_S1x6144x4096_S6144x4096)
    (shapeCast S6144x1 xs shapeCasts_S1x6144x1_S6144x1) w ws) shapeCasts_S6144x28672_S1x6144x28672

/-- The lines after the grid leave `value` of the arguments in the result. -/
theorem tail_main_v3 (c : Dev nD) : Pipeline.afterTail₀ cfgs (dats m) 0 (V0 m) [hostOps1] c main_v3
    = value (m ((c : Thread nD τ).loc main_arg0)) (m ((c : Thread nD τ).loc main_arg1))
        (m ((c : Thread nD τ).loc main_arg2)) (m ((c : Thread nD τ).loc main_arg3)) := by
  have harr : Pipeline.withArrays spec0 c (V0 m c) (fun w => (dats m 0 c).arrAt w cfg0.N) (Proc.devRef .tc main_v2)
      = result m c := (Pipeline.withArrays_arr spec0 arr_inj c (V0 m c) _ 4).trans (final m c)
  unfold Pipeline.afterTail₀
  simp only [hostOps1, List.flatten_cons, List.flatten_nil, List.append_nil]
  after_results
  refine (congrArg (fun y : Vec Ideal S6144x28672 .bf16 => shapeCast S1x6144x28672 y
    shapeCasts_S6144x28672_S1x6144x28672) harr).trans ?_
  unfold value result
  rw [V_main_v0, V_main_v1, V_main_arg2, V_main_arg3]

/-- The run, read: the result holds `value` of the arguments, and the arguments are as they were. -/
theorem run : θ_run defs (onTc (τ := τ) (main (F := Ideal))) ⟨m, fun _ => 0, ρ⟩ fun r => ∀ c : Dev nD,
      r.2.mem ((c : Thread nD τ).loc main_v3)
        = value (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h.1 c).2 main_v3 (Pipeline.mem_restRefs_of main_v3 (by decide) (by decide)) |>.trans (tail_main_v3 m c), h.2 c⟩)
    (θ_run_and (run_main m ρ) (unchanged m ρ))

/-- The result at row `r` and column `c`. -/
theorem value_apply (x : Vec Ideal S1x6144x4096 .fp8e4m3) (xs : Vec Ideal S1x6144x1 .f32)
    (w : Vec Ideal S4096x28672 .fp8e4m3) (ws : Vec Ideal S1x28672 .f32) (r : Fin 6144) (c : Fin 28672) :
    value x xs w ws (ix3 0 r c)
      = scaled (fun k => x (ix3 0 r k)) (fun k => w (ix2 k c)) (xs (ix3 0 r 0)) (ws (ix2 0 c)) := by
  unfold value
  pointwise [product]

end Cert.KernelIdeal.Run

end
-- ==== Proof.Reference.lean ====
/-
  What the REFERENCE computes, over the extended reals: at row `r` and column `c` the scaled inner product of row `r` and
  column `c` of its arguments.
-/
module

public import proofs.«01_k».proof.Proof.Scaled
public import proofs.«01_k».proof.Proof.Gen.ReferenceIdeal.Value
public import Idealize.ShloMosaic.Lib.Pointwise
public import Idealize.ShloMosaic.Lib.Pointwise.Contract

@[expose] public section

set_option maxRecDepth 16384

noncomputable section

namespace Cert.ReferenceIdeal.RefValue

open Cert.ReferenceIdeal Cert.ReferenceIdeal.Gen Idealize.ShloMosaic

/-- The reference's result at row `r` and column `c`. -/
theorem value_apply (x : Vec Ideal S1x6144x4096 .fp8e4m3) (xs : Vec Ideal S1x6144x1 .f32)
    (w : Vec Ideal S4096x28672 .fp8e4m3) (ws : Vec Ideal S1x28672 .f32) (r : Fin 6144) (c : Fin 28672) :
    Cert.ReferenceIdeal.Value.G4 x xs w ws (ix3 0 r c)
      = scaled (fun k => x (ix3 0 r k)) (fun k => w (ix2 k c)) (xs (ix3 0 r 0)) (ws (ix2 0 c)) := by
  unfold Cert.ReferenceIdeal.Value.G4
  unfold_payloads
  pointwise [scaled]

end Cert.ReferenceIdeal.RefValue

end
-- ==== Proof.Equation.lean ====
/-
  The EQUATION: over the extended reals the kernel's result and the reference's are one function of the four arguments.
-/
module

public import proofs.«01_k».proof.Proof.Run
public import proofs.«01_k».proof.Proof.Reference

@[expose] public section

set_option maxRecDepth 16384

noncomputable section

namespace Cert.Equation

open Cert.KernelIdeal Idealize.ShloMosaic

/-- Kernel and reference agree at every index: both hold the scaled inner product of that row and that column. -/
theorem value_eq (x : Vec Ideal S1x6144x4096 .fp8e4m3) (xs : Vec Ideal S1x6144x1 .f32)
    (w : Vec Ideal S4096x28672 .fp8e4m3) (ws : Vec Ideal S1x28672 .f32) :
    Cert.ReferenceIdeal.Value.G4 x xs w ws = Cert.KernelIdeal.Run.value x xs w ws := by
  funext i
  obtain ⟨a, r, c, rfl⟩ : ∃ (a : Fin 1) (r : Fin 6144) (c : Fin 28672), i = ix3 a r c := ⟨i 0, i 1, i 2, eq_ix3 i⟩
  obtain rfl : a = 0 := Subsingleton.elim _ _
  rw [Cert.ReferenceIdeal.RefValue.value_apply, Cert.KernelIdeal.Run.value_apply]

end Cert.Equation

end
-- ==== Proof.lean ====
/-
  The proof of `Cert.Claim`: each program ends with its arguments and its semaphore counters as they were (the frames), the
  idealized kernel keeps the kernel's operations, and over the extended reals the kernel's result is the reference's.
-/
module

public import proofs.«01_k».proof.Proof.Equation
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- From memories that agree on the arguments, the kernel's result and the reference's hold the same extended reals. -/
theorem algebraic : Cert.algebraic_KernelIdeal_ReferenceIdeal := by
  intro m ρ m' ρ' _ hagree
  refine ⟨fun c => _, Cert.KernelIdeal.Run.run m ρ, (θ_run Cert.ReferenceIdeal.defs _ _).mono
    (fun _ h c => ⟨(h c).1.trans ?_, (h c).2⟩) (Cert.ReferenceIdeal.Value.run (F := Ideal) m' ρ')⟩
  rw [(hagree c).1, (hagree c).2.1, (hagree c).2.2.1, (hagree c).2.2.2]
  exact Cert.Equation.value_eq _ _ _ _

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
